-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4194304x3 : Shape := ⟨2, ![4194304, 3]⟩
abbrev S10 : Shape := ⟨1, ![10]⟩
abbrev S32768x128x3 : Shape := ⟨3, ![32768, 128, 3]⟩
abbrev S3x32768x128 : Shape := ⟨3, ![3, 32768, 128]⟩
abbrev S32768x128 : Shape := ⟨2, ![32768, 128]⟩
abbrev S3x8192x128 : Shape := ⟨3, ![3, 8192, 128]⟩
abbrev S8192x128 : Shape := ⟨2, ![8192, 128]⟩
abbrev S1 : Shape := ⟨1, ![1]⟩
abbrev S1x8192x128 : Shape := ⟨3, ![1, 8192, 128]⟩
abbrev S4194304 : Shape := ⟨1, ![4194304]⟩

abbrev nBuf : Space → Nat
  | .hbm => 6
  | .vmem => 4
  | .smem => 1
  | _ => 0

abbrev bufTy : (tb : Table) → Fin (tcTables nBuf tb) → BufTy
  | .hbm, ⟨0, _⟩ => ⟨S4194304x3, .f32⟩
  | .hbm, ⟨1, _⟩ => ⟨S10, .f32⟩
  | .hbm, ⟨2, _⟩ => ⟨S32768x128x3, .f32⟩
  | .hbm, ⟨3, _⟩ => ⟨S3x32768x128, .f32⟩
  | .hbm, ⟨4, _⟩ => ⟨S32768x128, .f32⟩
  | .hbm, ⟨5, _⟩ => ⟨S4194304, .f32⟩
  | .local _ .vmem, ⟨0, _⟩ => ⟨S3x8192x128, .f32⟩
  | .local _ .vmem, ⟨1, _⟩ => ⟨S3x8192x128, .f32⟩
  | .local _ .vmem, ⟨2, _⟩ => ⟨S8192x128, .f32⟩
  | .local _ .vmem, ⟨3, _⟩ => ⟨S8192x128, .f32⟩
  | .local _ .smem, ⟨0, _⟩ => ⟨S10, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S10 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4194304x3 : Shape := ⟨2, ![4194304, 3]⟩
abbrev S10 : Shape := ⟨1, ![10]⟩
abbrev S1 : Shape := ⟨1, ![1]⟩
abbrev S_ : Shape := ⟨0, ![]⟩
abbrev S4194304x1 : Shape := ⟨2, ![4194304, 1]⟩
abbrev S4194304 : Shape := ⟨1, ![4194304]⟩
abbrev S4 : Shape := ⟨1, ![4]⟩
abbrev S3 : Shape := ⟨1, ![3]⟩

abbrev nBuf : Space → Nat
  | .hbm => 73
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S10, .f32⟩
  | .hbm, ⟨2, _⟩ => ⟨S1, .f32⟩
  | .hbm, ⟨3, _⟩ => ⟨S_, .f32⟩
  | .hbm, ⟨4, _⟩ => ⟨S4194304x1, .f32⟩
  | .hbm, ⟨5, _⟩ => ⟨S4194304, .f32⟩
  | .hbm, ⟨6, _⟩ => ⟨S4194304x1, .f32⟩
  | .hbm, ⟨7, _⟩ => ⟨S4194304, .f32⟩
  | .hbm, ⟨8, _⟩ => ⟨S4194304x1, .f32⟩
  | .hbm, ⟨9, _⟩ => ⟨S4194304, .f32⟩
  | .hbm, ⟨10, _⟩ => ⟨S4, .f32⟩
  | .hbm, ⟨11, _⟩ => ⟨S3, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S_, .f32⟩
  | .hbm, ⟨27, _⟩ => ⟨S4194304, .f32⟩
  | .hbm, ⟨28, _⟩ => ⟨S4194304, .i1⟩
  | .hbm, ⟨29, _⟩ => ⟨S1, .f32⟩
  | .hbm, ⟨30, _⟩ => ⟨S_, .f32⟩
  | .hbm, ⟨31, _⟩ => ⟨S4194304, .f32⟩
  | .hbm, ⟨32, _⟩ => ⟨S4194304, .i1⟩
  | .hbm, ⟨33, _⟩ => ⟨S1, .f32⟩
  | .hbm, ⟨34, _⟩ => ⟨S_, .f32⟩
  | .hbm, ⟨35, _⟩ => ⟨S4194304, .f32⟩
  | .hbm, ⟨36, _⟩ => ⟨S4194304, .i1⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S4194304, .f32⟩
  | .hbm, ⟨42, _⟩ => ⟨S4194304, .f32⟩
  | .hbm, ⟨43, _⟩ => ⟨S4194304, .f32⟩
  | .hbm, ⟨44, _⟩ => ⟨S4194304, .f32⟩
  | .hbm, ⟨45, _⟩ => ⟨S4194304, .f32⟩
  | .hbm, ⟨46, _⟩ => ⟨S4194304, .f32⟩
  | .hbm, ⟨47, _⟩ => ⟨S4194304, .f32⟩
  | .hbm, ⟨48, _⟩ => ⟨S_, .f32⟩
  | .hbm, ⟨49, _⟩ => ⟨S4194304, .f32⟩
  | .hbm, ⟨50, _⟩ => ⟨S4194304, .i1⟩
  | .hbm, ⟨51, _⟩ => ⟨S1, .f32⟩
  | .hbm, ⟨52, _⟩ => ⟨S_, .f32⟩
  | .hbm, ⟨53, _⟩ => ⟨S_, .f32⟩
  | .hbm, ⟨54, _⟩ => ⟨S4194304, .f32⟩
  | .hbm, ⟨55, _⟩ => ⟨S4194304, .i1⟩
  | .hbm, ⟨56, _⟩ => ⟨S1, .f32⟩
  | .hbm, ⟨57, _⟩ => ⟨S_, .f32⟩
  | .hbm, ⟨58, _⟩ => ⟨S_, .f32⟩
  | .hbm, ⟨59, _⟩ => ⟨S4194304, .f32⟩
  | .hbm, ⟨60, _⟩ => ⟨S4194304, .f32⟩
  | .hbm, ⟨61, _⟩ => ⟨S4194304, .f32⟩
  | .hbm, ⟨62, _⟩ => ⟨S4194304, .f32⟩
  | .hbm, ⟨63, _⟩ => ⟨S4194304, .f32⟩
  | .hbm, ⟨64, _⟩ => ⟨S4194304, .f32⟩
  | .hbm, ⟨65, _⟩ => ⟨S4194304, .f32⟩
  | .hbm, ⟨66, _⟩ => ⟨S_, .f32⟩
  | .hbm, ⟨67, _⟩ => ⟨S4194304, .f32⟩
  | .hbm, ⟨68, _⟩ => ⟨S4194304, .f32⟩
  | .hbm, ⟨69, _⟩ => ⟨S4194304, .f32⟩
  | .hbm, ⟨70, _⟩ => ⟨S_, .f32⟩
  | .hbm, ⟨71, _⟩ => ⟨S4194304, .f32⟩
  | .hbm, ⟨72, _⟩ => ⟨S4194304, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_call0_v0 : Ref sig .tc := ⟨.hbm, 41, rfl⟩
abbrev main_call0_v1 : Ref sig .tc := ⟨.hbm, 42, rfl⟩
abbrev main_v39 : Ref sig .tc := ⟨.hbm, 43, rfl⟩
abbrev main_call1_v0 : Ref sig .tc := ⟨.hbm, 44, rfl⟩
abbrev main_v40 : Ref sig .tc := ⟨.hbm, 45, rfl⟩
abbrev main_call2_v0 : Ref sig .tc := ⟨.hbm, 46, rfl⟩
abbrev main_v41 : Ref sig .tc := ⟨.hbm, 47, rfl⟩
abbrev main_cst : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_0 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_1 : Ref sig .tc := ⟨.hbm, 58, rfl⟩
abbrev main_v50 : Ref sig .tc := ⟨.hbm, 59, rfl⟩
abbrev main_call3_v0 : Ref sig .tc := ⟨.hbm, 60, rfl⟩
abbrev main_v51 : Ref sig .tc := ⟨.hbm, 61, rfl⟩
abbrev main_call4_v0 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_2 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== Proof.Risk.lean ====
/-
  The mathematics of one exposure: what both programs compute for one row (time, distance class, contact class), given the
  ten parameters. Both programs' results are stated in these three functions, so the equation between them is read off.
-/
module

public import Idealize.ShloMosaic.PureOps
public import Idealize.ShloMosaic.PureOps.Ideal
public import Idealize.ShloMosaic.Lib.ValueIdxCore

@[expose] public section

noncomputable section

open Idealize.ShloMosaic
open Idealize.ShloMosaic.ValueIdx

namespace Cert.Risk

/-- The weight of an attenuation `a`: parameter 1, 2, 3 or 4 as `a` is at most parameter 5, at most parameters 5 and 6
    added, at most parameters 5, 6 and 7 added, or above all three. -/
def nearWeight (p : Fin 10 → Ideal .f32) (a : Ideal .f32) : Ideal .f32 :=
  Scalar.select (FloatOps.cmpf .ole a (p 5)) (p 1)
    (Scalar.select (FloatOps.cmpf .ole a (FloatOps.addf (p 5) (p 6))) (p 2)
      (Scalar.select (FloatOps.cmpf .ole a (FloatOps.addf (FloatOps.addf (p 5) (p 6)) (p 7))) (p 3) (p 4)))

/-- The weight of a contact class `c`: parameter 8 at class two, parameter 9 at class three, zero otherwise. -/
def classWeight (p : Fin 10 → Ideal .f32) (c : Ideal .f32) : Ideal .f32 :=
  Scalar.select (FloatOps.cmpf .oeq c (FloatOps.ofBits .f32 0x40000000#32)) (p 8)
    (Scalar.select (FloatOps.cmpf .oeq c (FloatOps.ofBits .f32 0x40400000#32)) (p 9) (FloatOps.ofBits .f32 0x00000000#32))

/-- One minus the exponential of minus parameter 0 times the weighted duration: the result for one exposure of
    duration `tau`, attenuation `a` and contact class `c`. -/
def risk (p : Fin 10 → Ideal .f32) (tau a c : Ideal .f32) : Ideal .f32 :=
  FloatOps.subf (FloatOps.ofBits .f32 0x3F800000#32)
    (FloatOps.exp (FloatOps.mulf (FloatOps.hostNegf (p 0)) (FloatOps.mulf (FloatOps.mulf tau (nearWeight p a)) (classWeight p c))))

/-- The results for all 4194304 exposures: entry `i` is the result for row `i` of the exposures `x` under the parameters `p`. -/
def risks (x : (⟨2, ![4194304, 3]⟩ : Shape).Idx → Ideal .f32) (p : (⟨1, ![10]⟩ : Shape).Idx → Ideal .f32) :
    (⟨1, ![4194304]⟩ : Shape).Idx → Ideal .f32 := fun i =>
  risk (fun k => p (ix1 k)) (x (ix2 (i 0) 0)) (x (ix2 (i 0) 1)) (x (ix2 (i 0) 2))

end Cert.Risk

end
-- ==== Proof.Block.lean ====
/-
  What one grid point computes: the kernel body's one store, read at an index, is `Risk.risk` of the ten parameters and of
  the three planes of the input block at that index.
-/
module

public import proofs.«01_k».proof.Proof.Gen.KernelIdeal.Frame
public import proofs.«01_k».proof.Proof.Risk
public import Idealize.ShloMosaic.Lib.Pipeline.Value
public import Idealize.ShloMosaic.Lib.ValueIdxCore
public import Idealize.ShloMosaic.Lib.KernelVsHost

@[expose] public section

noncomputable section

open Idealize.ShloMosaic Idealize.ShloMosaic.TcCoe Idealize.SL.Sem
open Idealize.ShloMosaic.ValueIdx

namespace Cert.KernelIdeal.Block

open Cert.KernelIdeal Cert.KernelIdeal.Gen

/-- A load through a unit-stride rectangle of a whole memref holding `X` reads `X` at the offset index. -/
theorem load_apply {sp : Space} {s : Shape} {e : EltTy} {arg : Memref sig .tc sp s e} (harg : arg.IsWhole)
    (X : Vec Ideal s e) (off size : Fin s.rank → Nat) (inb : ∀ a, off a + size a ≤ s.size a)
    (j : (Rect.unit (s := s) off size inb).shape.Idx) (i : s.Idx) (hi : ∀ a, (i a).val = off a + (j a).val) :
    View.readAt (Elt Ideal) arg.view (Rect.unit off size inb).toLoadRect (harg.unread X) j = X i := by
  rw [View.readAt_apply, harg.read_unread]
  refine congrArg X (funext fun a => Fin.ext ?_)
  show off a + 1 * (j a).val = (i a).val
  rw [hi a, Nat.one_mul]

/-- The scalar load of parameter `n`. -/
theorem param_apply {arg : Memref sig .tc .smem S10 .f32} (harg : arg.IsWhole) (x : Vec Ideal S10 .f32) (n : Nat) (hn : n < 10)
    (inb : ∀ a, (![n] : Fin 1 → Nat) a + S1.size a ≤ S10.size a) (j : S1.Idx) :
    View.readAt (Elt Ideal) arg.view (Rect.unit (s := S10) ![n] S1.size inb).toLoadRect (harg.unread x) j = x (ix1 ⟨n, hn⟩) :=
  load_apply harg x _ _ inb j (ix1 ⟨n, hn⟩) fun a => by
    match a with
    | ⟨0, _⟩ =>
      have h : (j 0).val < 1 := (j 0).isLt
      show n = n + (j 0).val
      omega

/-- Plane `k` of the input block, its unit axis dropped, at an index. -/
theorem plane_apply {arg : Memref sig .tc .vmem S3x8192x128 .f32} (harg : arg.IsWhole) (x : Vec Ideal S3x8192x128 .f32)
    (k : Fin 3) (inb : ∀ a, (![k.val, 0, 0] : Fin 3 → Nat) a + S1x8192x128.size a ≤ S3x8192x128.size a) (y : S8192x128.Idx) :
    shapeCast S8192x128 (View.readAt (Elt Ideal) arg.view
        (Rect.unit (s := S3x8192x128) ![k.val, 0, 0] S1x8192x128.size inb).toLoadRect (harg.unread x))
      shapeCasts_S1x8192x128_S8192x128 y = x (ix3 k (y 0) (y 1)) := by
  refine (shapeCast_dropUnit_apply ![8192, 128] _ shapeCasts_S1x8192x128_S8192x128 y).trans ?_
  refine load_apply harg x _ _ inb _ (ix3 k (y 0) (y 1)) fun a => ?_
  match a with
  | ⟨0, _⟩ => rfl
  | ⟨1, _⟩ => exact (Nat.zero_add _).symm
  | ⟨2, _⟩ => exact (Nat.zero_add _).symm

/-- The offset of a store to the whole block. -/
theorem off_zero : (![0, 0] : Fin 2 → Nat) = fun _ => 0 := funext fun a => by fin_cases a <;> rfl

/-- What the body leaves in the output block at index `y`: the result for the exposure whose three entries are the input
    block's planes at `y`, under the ten parameters. -/
theorem out_apply (c : Dev nD) (i : grid0.Coords) (arg1 : Memref sig .tc .smem S10 .f32) (harg1 : arg1.IsWhole)
    (arg2 : Memref sig .tc .vmem S3x8192x128 .f32) (harg2 : arg2.IsWhole) (arg3 : Memref sig .tc .vmem S8192x128 .f32)
    (harg3 : arg3.IsWhole) (x0 : Vec Ideal S10 .f32) (x1 : Vec Ideal S3x8192x128 .f32) (y : S8192x128.Idx) :
    out0_A_2 c i arg1 harg1 arg2 harg2 arg3 harg3 x0 x1 y
      = Risk.risk (fun k => x0 (ix1 k)) (x1 (ix3 0 (y 0) (y 1))) (x1 (ix3 1 (y 0) (y 1))) (x1 (ix3 2 (y 0) (y 1))) := by
  unfold out0_A_2
  rw [View.read_writes_eq_canon _ _ _ (cover0_A_2 c i arg1 harg1 arg2 harg2 arg3 harg3 x0 x1)]
  unfold kernelRun0_A
  dsimp only
  rw [View.canon_unit_zero off_zero]
  unfold kernelRun0_A.sl.r kernelRun0_A.sl.r_10 kernelRun0_A.sl.r_11 kernelRun0_A.sl.r_12 kernelRun0_A.sl.r_13 kernelRun0_A.sl.r_14
    kernelRun0_A.sl.r_8
  unfold kernelRun0_A.sl.r_1 kernelRun0_A.sl.r_2 kernelRun0_A.sl.r_3 kernelRun0_A.sl.r_4 kernelRun0_A.sl.r_5 kernelRun0_A.sl.r_6
    kernelRun0_A.sl.r_7 kernelRun0_A.sl.r_9
  rw [param_apply harg1 x0 0 (by decide), param_apply harg1 x0 1 (by decide), param_apply harg1 x0 2 (by decide), param_apply harg1 x0 3 (by decide), param_apply harg1 x0 4 (by decide),
    param_apply harg1 x0 5 (by decide), param_apply harg1 x0 6 (by decide), param_apply harg1 x0 7 (by decide), param_apply harg1 x0 8 (by decide), param_apply harg1 x0 9 (by decide)]
  have h0 := plane_apply harg2 x1 0 inb_S3x8192x128_S1x8192x128_0_0_0 y
  have h1 := plane_apply harg2 x1 1 inb_S3x8192x128_S1x8192x128_1_0_0 y
  have h2 := plane_apply harg2 x1 2 inb_S3x8192x128_S1x8192x128_2_0_0 y
  unfold Risk.risk Risk.nearWeight Risk.classWeight
  rw [← h0, ← h1, ← h2, ← Ideal.subf_zero_eq_hostNegf]
  rfl

end Cert.KernelIdeal.Block

end
-- ==== Proof.Array.lean ====
/-
  What the kernel's output array holds after the four grid points: block by block it is one function of the parameters and
  of the three planes the region is entered with, so the whole array is that function.
-/
module

public import proofs.«01_k».proof.Proof.Block

@[expose] public section

noncomputable section

open Idealize.ShloMosaic Idealize.ShloMosaic.TcCoe Idealize.SL.Sem
open Idealize.ShloMosaic.Pipeline (Dat)
open Idealize.ShloMosaic.ValueIdx

namespace Cert.KernelIdeal.Array

open Cert.KernelIdeal Cert.KernelIdeal.Gen

variable (m : (ℓ : Loc nD τ sig) → Buf (Elt Ideal) ℓ)

/-- Where the three windows stand at point `t`: the parameters' at the start, the planes' and the output's at row block `t`. -/
theorem index_at (t : Fin cfg0.N) :
    win0_0.index t 0 = 0 ∧ (win0_1.index t 0 = 0 ∧ win0_1.index t 1 = t.val ∧ win0_1.index t 2 = 0)
      ∧ win0_2.index t 0 = t.val ∧ win0_2.index t 1 = 0 := by
  rcases fin_N0 t with rfl | rfl | rfl | rfl <;> decide +kernel

/-- A point's number is below four. -/
theorem point_lt (t : Fin cfg0.N) : t.val < 4 := by
  have h : t.val < cfg0.N := t.isLt
  have hN : cfg0.N = 4 := N_0
  omega

/-- The three planes as the region finds them. -/
abbrev planes (c : Dev nD) : S3x32768x128.Idx → Ideal .f32 := V m c main_v1

/-- The ten parameters as launched. -/
abbrev params (c : Dev nD) : S10.Idx → Ideal .f32 := m ((c.tc : Thread nD τ).loc main_arg1)

/-- The parameters' block at any point is the parameters. -/
theorem params_read (c : Dev nD) (t : Fin cfg0.N) (k : Fin 10) : iblk m c 0 t (ix1 k) = params m c (ix1 k) := by
  refine Eq.trans (b := V m c main_arg1 ((win0_0.rect t).emb (ix1 k))) rfl ?_
  rw [V_main_arg1]
  refine congrArg (params m c) (funext fun a => Fin.ext ?_)
  match a with
  | ⟨0, _⟩ => exact win0_0.rect_emb_val_of_index_zero t 0 (index_at t).1 (ix1 k)

/-- The planes' block at point `t` is rows `8192 t` to `8192 t + 8191` of the planes. -/
theorem planes_read (c : Dev nD) (t : Fin cfg0.N) (k : Fin 3) (r : Fin 8192) (l : Fin 128) :
    iblk m c 1 t (ix3 k r l)
      = planes m c (ix3 k ⟨t.val * 8192 + r.val, by have := point_lt t; have := r.isLt; omega⟩ l) := by
  refine Eq.trans (b := V m c main_v1 ((win0_1.rect t).emb (ix3 k r l))) rfl ?_
  refine congrArg (planes m c) (funext fun a => Fin.ext ?_)
  match a with
  | ⟨0, _⟩ => exact win0_1.rect_emb_val_of_index_zero t 0 (index_at t).2.1.1 (ix3 k r l)
  | ⟨1, _⟩ =>
    refine (win0_1.rect_emb_val t (ix3 k r l) 1).trans ?_
    rw [(index_at t).2.1.2.1]
    rfl
  | ⟨2, _⟩ => exact win0_1.rect_emb_val_of_index_zero t 2 (index_at t).2.1.2.2 (ix3 k r l)

/-- The array the kernel writes: at each index the result for the exposure whose entries are the planes there. -/
def grid (c : Dev nD) : S32768x128.Idx → Ideal .f32 := fun i =>
  Risk.risk (fun k => params m c (ix1 k)) (planes m c (ix3 0 (i 0) (i 1))) (planes m c (ix3 1 (i 0) (i 1)))
    (planes m c (ix3 2 (i 0) (i 1)))

/-- What point `t` writes back is its block of `grid`. -/
theorem flushed_eq (c : Dev nD) (t : Fin cfg0.N) :
    (dats m 0 c).flushed 2 t = (win0_2.blk t).view.read (Elt Ideal) (grid m c) := by
  show (cfg0.win 2).cut (grid0.coords t) ((dats m 0 c).after 2 t) = _
  rw [after0_2]
  refine funext fun (y : S8192x128.Idx) => ?_
  refine Eq.trans (b := outsAt0 m c t y) rfl ?_
  unfold outsAt0
  rw [Block.out_apply]
  refine Eq.trans (b := grid m c ((win0_2.rect t).emb y)) ?_ rfl
  have e : (win0_2.rect t).emb y
      = ix2 ⟨t.val * 8192 + (y 0).val, by have := point_lt t; have : (y 0).val < 8192 := (y 0).isLt; omega⟩ (y 1) := by
    refine funext fun a => Fin.ext ?_
    match a with
    | ⟨0, _⟩ =>
      refine (win0_2.rect_emb_val t y 0).trans ?_
      rw [(index_at t).2.2.1]
      rfl
    | ⟨1, _⟩ => exact win0_2.rect_emb_val_of_index_zero t 1 (index_at t).2.2.2 y
  rw [e]
  unfold grid
  simp only [params_read]
  exact congr (congr (congrArg _ (planes_read m c t 0 (y 0) (y 1))) (planes_read m c t 1 (y 0) (y 1)))
    (planes_read m c t 2 (y 0) (y 1))

/-- An index of the output array lies in point `t`'s block when its row is among that point's 8192. -/
theorem mem_blk (t : Fin cfg0.N) (i : S32768x128.Idx) :
    i ∈ ((cfg0.win 2).blk t).view.set ↔ t.val * 8192 ≤ (i 0).val ∧ (i 0).val < t.val * 8192 + 8192 := by
  show i ∈ ((View.whole main_v2).slice (win0_2.rect t)).set ↔ _
  rw [View.set_slice_whole, Rect.mem_set_unit]
  have h1 : (i 1).val < 128 := (i 1).isLt
  have e : win0_2.index t 0 * win0_2.size 0 = t.val * 8192 ∧ win0_2.xsize (grid0.coords t) 0 = 8192
      ∧ win0_2.index t 1 * win0_2.size 1 = 0 ∧ win0_2.xsize (grid0.coords t) 1 = 128 := by
    rcases fin_N0 t with rfl | rfl | rfl | rfl <;> decide +kernel
  refine ⟨fun h => ?_, fun h a => ?_⟩
  · have h0 : win0_2.index t 0 * win0_2.size 0 ≤ (i 0).val
        ∧ (i 0).val < win0_2.index t 0 * win0_2.size 0 + win0_2.xsize (grid0.coords t) 0 := h 0
    rw [e.1, e.2.1] at h0
    exact h0
  · match a with
    | ⟨0, _⟩ =>
      show win0_2.index t 0 * win0_2.size 0 ≤ (i 0).val
        ∧ (i 0).val < win0_2.index t 0 * win0_2.size 0 + win0_2.xsize (grid0.coords t) 0
      rw [e.1, e.2.1]
      exact h
    | ⟨1, _⟩ =>
      show win0_2.index t 1 * win0_2.size 1 ≤ (i 1).val
        ∧ (i 1).val < win0_2.index t 1 * win0_2.size 1 + win0_2.xsize (grid0.coords t) 1
      rw [e.2.2.1, e.2.2.2]
      omega

/-- Every index of the output array lies in the block of some point. -/
theorem cover (i : S32768x128.Idx) :
    ∃ t : Fin cfg0.N, (cfg0.win 2).flush t = true ∧ i ∈ ((cfg0.win 2).blk t).view.set := by
  have h0 : (i 0).val < 32768 := (i 0).isLt
  have hN : cfg0.N = 4 := N_0
  refine ⟨⟨(i 0).val / 8192, by omega⟩, flush0_2 _, ?_⟩
  rw [mem_blk]
  dsimp only
  omega

/-- So the output array ends holding `grid`. -/
theorem final (c : Dev nD) : (dats m 0 c).arrAt 2 cfg0.N = grid m c :=
  (dats m 0 c).arrAt_eq_of_cover 2 (grid m c) (fun t _ => flushed_eq m c t) cover

end Cert.KernelIdeal.Array

end
-- ==== Proof.Run.lean ====
/-
  The kernel program's run: the host lines before the region lay the exposures out as three planes, the region computes
  the output array plane-wise, the host line after it flattens that array. Read at an index, the result is that of the exposure's row.
-/
module

public import proofs.«01_k».proof.Proof.Array
public import Idealize.ShloMosaic.Lib.Claim

@[expose] public section

noncomputable section

open Idealize.ShloMosaic Idealize.ShloMosaic.TcCoe Idealize.SL.Sem
open Idealize.ShloMosaic.Pipeline (Dat)
open Idealize.ShloMosaic.ValueIdx

namespace Cert.KernelIdeal.Run

open Cert.KernelIdeal Cert.KernelIdeal.Gen

variable (m : (ℓ : Loc nD τ sig) → Buf (Elt Ideal) ℓ) (ρ : Dev nD → PrngReg)

/-- The exposures as launched. -/
abbrev exposures (c : Dev nD) : S4194304x3.Idx → Ideal .f32 := m ((c.tc : Thread nD τ).loc main_arg0)

/-- The three planes the region is entered with: the exposures regrouped in rows of 128, the entry axis moved first. -/
theorem planes_eq (c : Dev nD) : Array.planes m c
    = transpose S3x32768x128 [2, 0, 1] (shapeCast S32768x128x3 (exposures m c) shapeCasts_S4194304x3_S32768x128x3)
        transposes_S32768x128x3_S3x32768x128_2_0_1 := by
  unfold Array.planes
  entry_read
  rfl

/-- Plane `k` at row `r`, lane `l` is entry `k` of exposure `128 r + l`. -/
theorem planes_apply (c : Dev nD) (k : Fin 3) (r : Fin 32768) (l : Fin 128) :
    Array.planes m c (ix3 k r l)
      = exposures m c (ix2 ⟨r.val * 128 + l.val, by have := r.isLt; have := l.isLt; omega⟩ k) := by
  rw [planes_eq]
  refine (transpose_apply [2, 0, 1] _ transposes_S32768x128x3_S3x32768x128_2_0_1 (ix3 k r l) (ix3 r l k) fun b => ?_).trans ?_
  · match b with
    | ⟨0, _⟩ => rfl
    | ⟨1, _⟩ => rfl
    | ⟨2, _⟩ => rfl
  · refine shapeCast_apply _ shapeCasts_S4194304x3_S32768x128x3 (ix3 r l k) (ix2 _ k) ?_
    rw [Shape.rowMajor_val_two, Shape.rowMajor_val_three]
    rfl

/-- The result array after the run is the region's output array, flattened. -/
theorem tail_eq (c : Dev nD) : Pipeline.afterTail₀ cfgs (dats m) 0 (V0 m) [hostOps1] c main_v3
    = shapeCast S4194304 (Array.grid m c) shapeCasts_S32768x128_S4194304 := by
  have e : Pipeline.withArrays (cfgs 0).spec c (V0 m c) (fun w => (dats m 0 c).arrAt w (cfgs 0).N) (Proc.tc.devRef main_v2)
      = Array.grid m c :=
    (Pipeline.withArrays_arr spec0 (by decide) c (V0 m c) (fun w => (dats m 0 c).arrAt w cfg0.N) 2).trans (Array.final m c)
  unfold Pipeline.afterTail₀
  simp only [List.flatten_cons, List.flatten_nil, List.append_nil]
  after_results
  rw [e]
  rfl

/-- The flattened output at `i` is the result for exposure `i`. -/
theorem flat_eq (c : Dev nD) :
    shapeCast S4194304 (Array.grid m c) shapeCasts_S32768x128_S4194304 = Risk.risks (exposures m c) (Array.params m c) := by
  refine funext fun (i : S4194304.Idx) => ?_
  have hi : (i 0).val < 4194304 := (i 0).isLt
  refine (shapeCast_apply _ shapeCasts_S32768x128_S4194304 i
    (ix2 ⟨(i 0).val / 128, by omega⟩ ⟨(i 0).val % 128, by omega⟩) ?_).trans ?_
  · rw [Shape.rowMajor_val_two, Shape.rowMajor_val_one]
    show (i 0).val / 128 * 128 + (i 0).val % 128 = (i 0).val
    omega
  · have e : (⟨(i 0).val / 128 * 128 + (i 0).val % 128, by omega⟩ : Fin 4194304) = i 0 :=
      Fin.ext (by show (i 0).val / 128 * 128 + (i 0).val % 128 = (i 0).val; omega)
    have p (k : Fin 3) : Array.planes m c (ix3 k ⟨(i 0).val / 128, by omega⟩ ⟨(i 0).val % 128, by omega⟩)
        = exposures m c (ix2 (i 0) k) := (planes_apply m c k _ _).trans (by rw [e])
    exact congr (congr (congrArg _ (p 0)) (p 1)) (p 2)

/-- The run: from any launch contents the program ends with the result array at the results for the exposures, and the
    arguments unchanged. -/
theorem run : θ_run defs (onTc (τ := τ) (main (F := Ideal))) ⟨m, fun _ => 0, ρ⟩ fun r => ∀ c : Dev nD,
      r.2.mem ((c.tc : Thread nD τ).loc main_v3) = Risk.risks (exposures m c) (Array.params m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h.1 c).2 main_v3 (Pipeline.mem_restRefs_of main_v3 (by decide) (by decide))).trans ((tail_eq m c).trans (flat_eq m c)), h.2 c⟩)
    (θ_run_and (run_main m ρ) (unchanged m ρ))

end Cert.KernelIdeal.Run

end
-- ==== Proof.Ref.lean ====
/-
  What the reference computes: its composed host term, read at an index, is the result for the exposure's row.
-/
module

public import proofs.«01_k».proof.Proof.Gen.ReferenceIdeal.Run
public import proofs.«01_k».proof.Proof.Risk
public import Idealize.ShloMosaic.Lib.Pipeline.Value
public import Idealize.ShloMosaic.Lib.ValueIdxCore

@[expose] public section

noncomputable section

open Idealize.ShloMosaic Idealize.ShloMosaic.TcCoe Idealize.SL.Sem
open Idealize.ShloMosaic.ValueIdx

namespace Cert.ReferenceIdeal.Term

open Cert.ReferenceIdeal Cert.ReferenceIdeal.Gen

/-- A one-entry vector cast to a scalar reads its entry. -/
theorem scalar_apply (x : S1.Idx → Ideal .f32) (j : S_.Idx) : shapeCast S_ x shapeCasts_S1_S_ j = x (ix1 0) :=
  shapeCast_apply x shapeCasts_S1_S_ j (ix1 0) (by
    rw [Shape.rowMajor_val_one]
    have h : (S_.rowMajor j).val < 1 := (S_.rowMajor j).isLt
    show 0 = (S_.rowMajor j).val
    omega)

/-- A scalar spread over the exposures reads the scalar. -/
theorem spread_apply (x : S_.Idx → Ideal .f32) (i : S4194304.Idx) :
    broadcastInDim S4194304 ![] bcast_S_S4194304 x i = x ix0 :=
  broadcastInDim_apply ![] bcast_S_S4194304 x i ix0 fun a => a.elim0

/-- A one-entry slice at offset `n` reads entry `n`. -/
theorem slice_apply {N : Nat} (n : Nat) (hn : n < N) (x : (⟨1, ![N]⟩ : Shape).Idx → Ideal .f32)
    (h : (⟨1, ![N]⟩ : Shape).Slices ![n] S1) : extractStridedSlice S1 ![n] x h (ix1 0) = x (ix1 ⟨n, hn⟩) :=
  extractStridedSlice_apply ![n] x h (ix1 0) (ix1 ⟨n, hn⟩) fun a => by
    match a with
    | ⟨0, _⟩ => rfl

/-- The slice of parameters 1 to 4 at entry `n` is parameter `n + 1`. -/
theorem slice4_apply (n : Nat) (hn : n < 4) (x : S10.Idx → Ideal .f32) :
    extractStridedSlice S4 ![1] x slices_S10_S4_1 (ix1 ⟨n, hn⟩) = x (ix1 ⟨n + 1, by omega⟩) :=
  extractStridedSlice_apply ![1] x slices_S10_S4_1 (ix1 ⟨n, hn⟩) (ix1 ⟨n + 1, by omega⟩) fun a => by
    match a with
    | ⟨0, _⟩ => exact Nat.add_comm n 1

/-- The slice of parameters 5 to 7 at entry `n` is parameter `n + 5`. -/
theorem slice3_apply (n : Nat) (hn : n < 3) (x : S10.Idx → Ideal .f32) :
    extractStridedSlice S3 ![5] x slices_S10_S3_5 (ix1 ⟨n, hn⟩) = x (ix1 ⟨n + 5, by omega⟩) :=
  extractStridedSlice_apply ![5] x slices_S10_S3_5 (ix1 ⟨n, hn⟩) (ix1 ⟨n + 5, by omega⟩) fun a => by
    match a with
    | ⟨0, _⟩ => exact Nat.add_comm n 5

/-- Column `k` of the exposures, flattened, at `i` is entry `k` of exposure `i`. -/
theorem column_apply (k : Nat) (hk : k < 3) (x : S4194304x3.Idx → Ideal .f32) (h : S4194304x3.Slices ![0, k] S4194304x1)
    (i : S4194304.Idx) :
    shapeCast S4194304 (extractStridedSlice S4194304x1 ![0, k] x h) shapeCasts_S4194304x1_S4194304 i = x (ix2 (i 0) ⟨k, hk⟩) := by
  refine (shapeCast_apply _ shapeCasts_S4194304x1_S4194304 i (ix2 (i 0) 0) ?_).trans ?_
  · rw [Shape.rowMajor_val_two, Shape.rowMajor_val_one]
    show (i 0).val * 1 + 0 = (i 0).val
    omega
  · refine extractStridedSlice_apply ![0, k] x h (ix2 (i 0) 0) (ix2 (i 0) ⟨k, hk⟩) fun a => ?_
    match a with
    | ⟨0, _⟩ => exact (Nat.zero_add _).symm
    | ⟨1, _⟩ => rfl

variable (m : (ℓ : Loc nD τ sig) → Buf (Elt Ideal) ℓ) (ρ : Dev nD → PrngReg)

/-- The run: from any launch contents the reference ends with its result at the results for the exposures, and the
    arguments unchanged. -/
theorem run : θ_run defs (onTc (τ := τ) (main (F := Ideal))) ⟨m, fun _ => 0, ρ⟩ fun r => ∀ c : Dev nD,
      r.2.mem ((c.tc : Thread nD τ).loc main_v60)
        = Risk.risks (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ReferenceIdeal.Value.run (F := Ideal) m ρ)
  refine funext fun (i : S4194304.Idx) => ?_
  generalize m ((c.tc : Thread nD τ).loc main_arg0) = x
  generalize m ((c.tc : Thread nD τ).loc main_arg1) = p
  simp only [subf, mulf, Host.exp, select, cmpf]
  repeat rw [spread_apply]
  simp only [addf, Host.negf, constant]
  repeat rw [scalar_apply]
  rw [slice_apply (N := 3) 0 (by decide), slice_apply (N := 3) 1 (by decide), slice_apply (N := 3) 2 (by decide)]
  rw [slice_apply (N := 4) 0 (by decide), slice_apply (N := 4) 1 (by decide), slice_apply (N := 4) 2 (by decide),
    slice_apply (N := 4) 3 (by decide)]
  rw [slice_apply (N := 10) 0 (by decide), slice_apply (N := 10) 8 (by decide), slice_apply (N := 10) 9 (by decide)]
  rw [slice3_apply, slice3_apply, slice3_apply, slice4_apply, slice4_apply, slice4_apply, slice4_apply]
  rw [column_apply 0 (by decide), column_apply 1 (by decide), column_apply 2 (by decide)]
  rfl

end Cert.ReferenceIdeal.Term

end
-- ==== Proof.lean ====
/-
  The claims, assembled: the three programs run and leave their arguments, the idealized kernel is the kernel's own text,
  and at the ideal values the kernel's result is the reference's. The mathematics is in the modules imported here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-- The kernel, on bit patterns, terminates without fault, leaves its arguments as launched and every counter at zero. -/
theorem frame_kernel : Cert.quiescent_Kernel := fun m ρ _ => Cert.Kernel.Gen.frame m ρ

/-- The kernel at the ideal values does the same. -/
theorem frame_kernel_ideal : Cert.quiescent_KernelIdeal := fun m ρ _ => Cert.KernelIdeal.Gen.frame m ρ

/-- The reference at the ideal values does the same; it has no counter. -/
theorem frame_reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Term.run m ρ)

/-- The idealized kernel is the kernel's own text: nothing was rewritten. -/
theorem preserves : Cert.preserves_Kernel_KernelIdeal := trivial

/-- From equal arguments the kernel and the reference, at the ideal values, end with equal results: each result array is
    the list of the exposures' results under the parameters, and the arguments are unchanged. -/
theorem algebraic : Cert.algebraic_KernelIdeal_ReferenceIdeal := by
  intro m ρ m' ρ' _ hagree
  refine ⟨fun c => Cert.Risk.risks (Cert.KernelIdeal.Run.exposures m c) (Cert.KernelIdeal.Array.params m c),
    Cert.KernelIdeal.Run.run m ρ, ?_⟩
  refine (θ_run Cert.ReferenceIdeal.defs _ _).mono (fun _ h c => ⟨(h c).1.trans ?_, (h c).2⟩) (Cert.ReferenceIdeal.Term.run m' ρ')
  exact congr (congrArg Cert.Risk.risks (hagree c).1) (hagree c).2

/-- Every claim of this certificate. -/
theorem claim : Cert.Claim :=
  ⟨Cert.Kernel.Gen.facts, Cert.KernelIdeal.Gen.facts, Cert.ReferenceIdeal.Gen.facts,
    frame_kernel, frame_kernel_ideal, frame_reference_ideal, preserves, algebraic⟩

end Cert.Proof

end
